-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x100x100 : Shape := ⟨4, ![2, 256, 100, 100]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S3x3x256x256 : Shape := ⟨4, ![3, 3, 256, 256]⟩
abbrev S9x256x256 : Shape := ⟨3, ![9, 256, 256]⟩
abbrev S9x256 : Shape := ⟨2, ![9, 256]⟩
abbrev S36x256 : Shape := ⟨2, ![36, 256]⟩
abbrev S45x256 : Shape := ⟨2, ![45, 256]⟩
abbrev S_ : Shape := ⟨0, ![]⟩
abbrev S48x256 : Shape := ⟨2, ![48, 256]⟩
abbrev S45 : Shape := ⟨1, ![45]⟩
abbrev S48 : Shape := ⟨1, ![48]⟩
abbrev S48x1 : Shape := ⟨2, ![48, 1]⟩
abbrev S256x1 : Shape := ⟨2, ![256, 1]⟩
abbrev S2x45x10000 : Shape := ⟨3, ![2, 45, 10000]⟩
abbrev S1x256x100x100 : Shape := ⟨4, ![1, 256, 100, 100]⟩
abbrev S1x45x10000 : Shape := ⟨3, ![1, 45, 10000]⟩
abbrev S256x10496 : Shape := ⟨2, ![256, 10496]⟩
abbrev S1x256x8x100 : Shape := ⟨4, ![1, 256, 8, 100]⟩
abbrev S256x8x100 : Shape := ⟨3, ![256, 8, 100]⟩
abbrev S8x256x100 : Shape := ⟨3, ![8, 256, 100]⟩
abbrev S1x256x100 : Shape := ⟨3, ![1, 256, 100]⟩
abbrev S256x100 : Shape := ⟨2, ![256, 100]⟩
abbrev S1x256x4x100 : Shape := ⟨4, ![1, 256, 4, 100]⟩
abbrev S256x4x100 : Shape := ⟨3, ![256, 4, 100]⟩
abbrev S4x256x100 : Shape := ⟨3, ![4, 256, 100]⟩
abbrev S1x256x256 : Shape := ⟨3, ![1, 256, 256]⟩
abbrev S256x256 : Shape := ⟨2, ![256, 256]⟩
abbrev S256x1020 : Shape := ⟨2, ![256, 1020]⟩
abbrev S48x1020 : Shape := ⟨2, ![48, 1020]⟩
abbrev S45x100 : Shape := ⟨2, ![45, 100]⟩
abbrev S1x45x100 : Shape := ⟨3, ![1, 45, 100]⟩

abbrev nBuf : Space → Nat
  | .hbm => 24
  | .vmem => 10
  | .smem => 0
  | _ => 0

abbrev bufTy : (tb : Table) → Fin (tcTables nBuf tb) → BufTy
  | .hbm, ⟨0, _⟩ => ⟨S2x256x100x100, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S2x256x100x100, .fp8e4m3⟩
  | .hbm, ⟨8, _⟩ => ⟨S3x3x256x256, .f32⟩
  | .hbm, ⟨9, _⟩ => ⟨S9x256x256, .f32⟩
  | .hbm, ⟨10, _⟩ => ⟨S9x256, .f32⟩
  | .hbm, ⟨11, _⟩ => ⟨S36x256, .f32⟩
  | .hbm, ⟨12, _⟩ => ⟨S45x256, .f32⟩
  | .hbm, ⟨13, _⟩ => ⟨S_, .i32⟩
  | .hbm, ⟨14, _⟩ => ⟨S_, .f32⟩
  | .hbm, ⟨15, _⟩ => ⟨S48x256, .f32⟩
  | .hbm, ⟨16, _⟩ => ⟨S48x256, .bf16⟩
  | .hbm, ⟨17, _⟩ => ⟨S45, .f32⟩
  | .hbm, ⟨18, _⟩ => ⟨S_, .i32⟩
  | .hbm, ⟨19, _⟩ => ⟨S_, .f32⟩
  | .hbm, ⟨20, _⟩ => ⟨S48, .f32⟩
  | .hbm, ⟨21, _⟩ => ⟨S48x1, .f32⟩
  | .hbm, ⟨22, _⟩ => ⟨S256x1, .f32⟩
  | .hbm, ⟨23, _⟩ => ⟨S2x45x10000, .f32⟩
  | .local _ .vmem, ⟨0, _⟩ => ⟨S1x256x100x100, .fp8e4m3⟩
  | .local _ .vmem, ⟨1, _⟩ => ⟨S1x256x100x100, .fp8e4m3⟩
  | .local _ .vmem, ⟨2, _⟩ => ⟨S9x256x256, .f32⟩
  | .local _ .vmem, ⟨3, _⟩ => ⟨S48x256, .bf16⟩
  | .local _ .vmem, ⟨4, _⟩ => ⟨S256x1, .f32⟩
  | .local _ .vmem, ⟨5, _⟩ => ⟨S48x1, .f32⟩
  | .local _ .vmem, ⟨6, _⟩ => ⟨S1x45x10000, .f32⟩
  | .local _ .vmem, ⟨7, _⟩ => ⟨S1x45x10000, .f32⟩
  | .local _ .vmem, ⟨8, _⟩ => ⟨S256x10496, .fp8e4m3⟩
  | .local _ .vmem, ⟨9, _⟩ => ⟨S9x256x256, .fp8e4m3⟩
  | _, _ => ⟨S2x256x100x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x100x100 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x45x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x256x100x100 : Shape := ⟨4, ![2, 256, 100, 100]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S_ : Shape := ⟨0, ![]⟩
abbrev S2x256x102x102 : Shape := ⟨4, ![2, 256, 102, 102]⟩
abbrev S256x256x1x1 : Shape := ⟨4, ![256, 256, 1, 1]⟩
abbrev S256x256 : Shape := ⟨2, ![256, 256]⟩
abbrev S2x100x100x256 : Shape := ⟨4, ![2, 100, 100, 256]⟩
abbrev S1x256x1x1 : Shape := ⟨4, ![1, 256, 1, 1]⟩
abbrev S9x256 : Shape := ⟨2, ![9, 256]⟩
abbrev S2x100x100x9 : Shape := ⟨4, ![2, 100, 100, 9]⟩
abbrev S2x9x100x100 : Shape := ⟨4, ![2, 9, 100, 100]⟩
abbrev S1x9x1x1 : Shape := ⟨4, ![1, 9, 1, 1]⟩
abbrev S36x256 : Shape := ⟨2, ![36, 256]⟩
abbrev S2x100x100x36 : Shape := ⟨4, ![2, 100, 100, 36]⟩
abbrev S2x36x100x100 : Shape := ⟨4, ![2, 36, 100, 100]⟩
abbrev S1x36x1x1 : Shape := ⟨4, ![1, 36, 1, 1]⟩
abbrev S2x45x100x100 : Shape := ⟨4, ![2, 45, 100, 100]⟩
abbrev S2x45x10000 : Shape := ⟨3, ![2, 45, 10000]⟩

abbrev nBuf : Space → Nat
  | .hbm => 86
  | .vmem => 0
  | .smem => 0
  | _ => 0

abbrev bufTy : (tb : Table) → Fin (tcTables nBuf tb) → BufTy
  | .hbm, ⟨0, _⟩ => ⟨S2x256x100x100, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S2x256x102x102, .f32⟩
  | .hbm, ⟨10, _⟩ => ⟨S256x256x1x1, .f32⟩
  | .hbm, ⟨11, _⟩ => ⟨S256x256, .f32⟩
  | .hbm, ⟨12, _⟩ => ⟨S2x256x100x100, .f32⟩
  | .hbm, ⟨13, _⟩ => ⟨S2x100x100x256, .f32⟩
  | .hbm, ⟨14, _⟩ => ⟨S2x256x100x100, .f32⟩
  | .hbm, ⟨15, _⟩ => ⟨S_, .f32⟩
  | .hbm, ⟨16, _⟩ => ⟨S2x256x100x100, .f32⟩
  | .hbm, ⟨17, _⟩ => ⟨S2x256x100x100, .f32⟩
  | .hbm, ⟨18, _⟩ => ⟨S256x256x1x1, .f32⟩
  | .hbm, ⟨19, _⟩ => ⟨S256x256, .f32⟩
  | .hbm, ⟨20, _⟩ => ⟨S2x256x100x100, .f32⟩
  | .hbm, ⟨21, _⟩ => ⟨S2x100x100x256, .f32⟩
  | .hbm, ⟨22, _⟩ => ⟨S2x256x100x100, .f32⟩
  | .hbm, ⟨23, _⟩ => ⟨S2x256x100x100, .f32⟩
  | .hbm, ⟨24, _⟩ => ⟨S256x256x1x1, .f32⟩
  | .hbm, ⟨25, _⟩ => ⟨S256x256, .f32⟩
  | .hbm, ⟨26, _⟩ => ⟨S2x256x100x100, .f32⟩
  | .hbm, ⟨27, _⟩ => ⟨S2x100x100x256, .f32⟩
  | .hbm, ⟨28, _⟩ => ⟨S2x256x100x100, .f32⟩
  | .hbm, ⟨29, _⟩ => ⟨S2x256x100x100, .f32⟩
  | .hbm, ⟨30, _⟩ => ⟨S256x256x1x1, .f32⟩
  | .hbm, ⟨31, _⟩ => ⟨S256x256, .f32⟩
  | .hbm, ⟨32, _⟩ => ⟨S2x256x100x100, .f32⟩
  | .hbm, ⟨33, _⟩ => ⟨S2x100x100x256, .f32⟩
  | .hbm, ⟨34, _⟩ => ⟨S2x256x100x100, .f32⟩
  | .hbm, ⟨35, _⟩ => ⟨S2x256x100x100, .f32⟩
  | .hbm, ⟨36, _⟩ => ⟨S256x256x1x1, .f32⟩
  | .hbm, ⟨37, _⟩ => ⟨S256x256, .f32⟩
  | .hbm, ⟨38, _⟩ => ⟨S2x256x100x100, .f32⟩
  | .hbm, ⟨39, _⟩ => ⟨S2x100x100x256, .f32⟩
  | .hbm, ⟨40, _⟩ => ⟨S2x256x100x100, .f32⟩
  | .hbm, ⟨41, _⟩ => ⟨S2x256x100x100, .f32⟩
  | .hbm, ⟨42, _⟩ => ⟨S256x256x1x1, .f32⟩
  | .hbm, ⟨43, _⟩ => ⟨S256x256, .f32⟩
  | .hbm, ⟨44, _⟩ => ⟨S2x256x100x100, .f32⟩
  | .hbm, ⟨45, _⟩ => ⟨S2x100x100x256, .f32⟩
  | .hbm, ⟨46, _⟩ => ⟨S2x256x100x100, .f32⟩
  | .hbm, ⟨47, _⟩ => ⟨S2x256x100x100, .f32⟩
  | .hbm, ⟨48, _⟩ => ⟨S256x256x1x1, .f32⟩
  | .hbm, ⟨49, _⟩ => ⟨S256x256, .f32⟩
  | .hbm, ⟨50, _⟩ => ⟨S2x256x100x100, .f32⟩
  | .hbm, ⟨51, _⟩ => ⟨S2x100x100x256, .f32⟩
  | .hbm, ⟨52, _⟩ => ⟨S2x256x100x100, .f32⟩
  | .hbm, ⟨53, _⟩ => ⟨S2x256x100x100, .f32⟩
  | .hbm, ⟨54, _⟩ => ⟨S256x256x1x1, .f32⟩
  | .hbm, ⟨55, _⟩ => ⟨S256x256, .f32⟩
  | .hbm, ⟨56, _⟩ => ⟨S2x256x100x100, .f32⟩
  | .hbm, ⟨57, _⟩ => ⟨S2x100x100x256, .f32⟩
  | .hbm, ⟨58, _⟩ => ⟨S2x256x100x100, .f32⟩
  | .hbm, ⟨59, _⟩ => ⟨S2x256x100x100, .f32⟩
  | .hbm, ⟨60, _⟩ => ⟨S256x256x1x1, .f32⟩
  | .hbm, ⟨61, _⟩ => ⟨S256x256, .f32⟩
  | .hbm, ⟨62, _⟩ => ⟨S2x256x100x100, .f32⟩
  | .hbm, ⟨63, _⟩ => ⟨S2x100x100x256, .f32⟩
  | .hbm, ⟨64, _⟩ => ⟨S2x256x100x100, .f32⟩
  | .hbm, ⟨65, _⟩ => ⟨S2x256x100x100, .f32⟩
  | .hbm, ⟨66, _⟩ => ⟨S1x256x1x1, .f32⟩
  | .hbm, ⟨67, _⟩ => ⟨S2x256x100x100, .f32⟩
  | .hbm, ⟨68, _⟩ => ⟨S2x256x100x100, .f32⟩
  | .hbm, ⟨69, _⟩ => ⟨S_, .f32⟩
  | .hbm, ⟨70, _⟩ => ⟨S2x256x100x100, .f32⟩
  | .hbm, ⟨71, _⟩ => ⟨S2x256x100x100, .f32⟩
  | .hbm, ⟨72, _⟩ => ⟨S9x256, .f32⟩
  | .hbm, ⟨73, _⟩ => ⟨S2x100x100x9, .f32⟩
  | .hbm, ⟨74, _⟩ => ⟨S2x9x100x100, .f32⟩
  | .hbm, ⟨75, _⟩ => ⟨S1x9x1x1, .f32⟩
  | .hbm, ⟨76, _⟩ => ⟨S2x9x100x100, .f32⟩
  | .hbm, ⟨77, _⟩ => ⟨S2x9x100x100, .f32⟩
  | .hbm, ⟨78, _⟩ => ⟨S36x256, .f32⟩
  | .hbm, ⟨79, _⟩ => ⟨S2x100x100x36, .f32⟩
  | .hbm, ⟨80, _⟩ => ⟨S2x36x100x100, .f32⟩
  | .hbm, ⟨81, _⟩ => ⟨S1x36x1x1, .f32⟩
  | .hbm, ⟨82, _⟩ => ⟨S2x36x100x100, .f32⟩
  | .hbm, ⟨83, _⟩ => ⟨S2x36x100x100, .f32⟩
  | .hbm, ⟨84, _⟩ => ⟨S2x45x100x100, .f32⟩
  | .hbm, ⟨85, _⟩ => ⟨S2x45x10000, .f32⟩
  | _, _ => ⟨S2x256x100x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.Model.lean ====
/-
What both programs compute, as one function of the seven arguments: a 3 by 3 convolution over the image with a border of
zeros, its bias, zero where that is negative, then one matrix over the channels whose first nine rows are the class
head's weights and whose other 36 rows are the box head's, with their biases.
-/
module

public import Idealize.ShloMosaic.Lib.Pointwise

@[expose] public section

noncomputable section

namespace Cert.Model

open Idealize.ShloMosaic

/-- Nine terms added up from the first to the last. -/
def nine (f : Fin 9 → EReal) : EReal := f 0 + f 1 + f 2 + f 3 + f 4 + f 5 + f 6 + f 7 + f 8

/-- An image with a border of zeros one position wide: row `r` and column `c` count the border. -/
def border (x : Fin 100 → Fin 100 → EReal) (r c : ℕ) : EReal :=
  if h : (1 ≤ r ∧ r ≤ 100) ∧ (1 ≤ c ∧ c ≤ 100) then x ⟨r - 1, by omega⟩ ⟨c - 1, by omega⟩ else 0

/-- The hidden layer at one channel, row `h`, column `w`, from the channel's weights by tap and input channel, its bias
    and the image by input channel. -/
def hidden (x : Fin 256 → Fin 100 → Fin 100 → EReal) (wt : Fin 9 → Fin 256 → EReal) (bc : EReal) (h w : ℕ) : EReal :=
  max (nine (fun k => ∑ i : Fin 256, wt k i * border (x i) (h + (k : ℕ) / 3) (w + (k : ℕ) % 3)) + bc) 0

/-- One output channel at row `h`, column `w`, from the channel's weights and bias. -/
def head (x : Fin 256 → Fin 100 → Fin 100 → EReal) (wt : Fin 256 → Fin 9 → Fin 256 → EReal) (bc : Fin 256 → EReal)
    (wh : Fin 256 → EReal) (bh : EReal) (h w : ℕ) : EReal :=
  (∑ a : Fin 256, wh a * hidden x (wt a) (bc a) h w) + bh

/-- Two spellings of the same data give the same output channel. -/
theorem head_congr {x x' : Fin 256 → Fin 100 → Fin 100 → EReal} {wt wt' : Fin 256 → Fin 9 → Fin 256 → EReal} {bc bc' : Fin 256 → EReal}
    {wh wh' : Fin 256 → EReal} {bh bh' : EReal} (h w : ℕ) (hx : ∀ i r c, x i r c = x' i r c) (hw : ∀ a k i, wt a k i = wt' a k i)
    (hb : ∀ a, bc a = bc' a) (hh : ∀ a, wh a = wh' a) (hc : bh = bh') : head x wt bc wh bh h w = head x' wt' bc' wh' bh' h w := by
  obtain rfl : x = x' := funext fun i => funext fun r => funext fun c => hx i r c
  obtain rfl : wt = wt' := funext fun a => funext fun k => funext fun i => hw a k i
  obtain rfl : bc = bc' := funext hb
  obtain rfl : wh = wh' := funext hh
  rw [hc]

/-- The result: image `b`, output channel `o`, row `h` and column `w` at position `100 h + w`. -/
def result (X : Vec Ideal ⟨4, ![2, 256, 100, 100]⟩ .f32) (W : Vec Ideal ⟨4, ![256, 256, 3, 3]⟩ .f32) (B : Vec Ideal ⟨1, ![256]⟩ .f32)
    (Wcls : Vec Ideal ⟨4, ![9, 256, 1, 1]⟩ .f32) (Bcls : Vec Ideal ⟨1, ![9]⟩ .f32)
    (Wreg : Vec Ideal ⟨4, ![36, 256, 1, 1]⟩ .f32) (Breg : Vec Ideal ⟨1, ![36]⟩ .f32)
    (b : Fin 2) (o : Fin 45) (q : Fin 10000) : EReal :=
  head (fun i r c => X (ix4 b i r c))
    (fun a k i => W (ix4 a i ⟨(k : ℕ) / 3, by omega⟩ ⟨(k : ℕ) % 3, by omega⟩)) (fun a => B (ix1 a))
    (fun a => if h : (o : ℕ) < 9 then Wcls (ix4 ⟨o, h⟩ a 0 0) else Wreg (ix4 ⟨(o : ℕ) - 9, by omega⟩ a 0 0))
    (if h : (o : ℕ) < 9 then Bcls (ix1 ⟨o, h⟩) else Breg (ix1 ⟨(o : ℕ) - 9, by omega⟩))
    ((q : ℕ) / 100) ((q : ℕ) % 100)

end Cert.Model

end
-- ==== Proof.Padded.lean ====
/-
The padded image the kernel body keeps in its scratch array. The body fills the array with zeros and then stores the
hundred rows of the image one by one, each moved one position right and one row down in rows of 102 positions. This
file shows that what the stores leave is the image with a border of zeros, at every position of the array.
-/
module

public import proofs.«01_k».proof.Proof.Gen.KernelIdeal.Value
public import proofs.«01_k».proof.Proof.Model

@[expose] public section

set_option maxRecDepth 16384

noncomputable section

namespace Cert.KernelIdeal.Padded

open Cert.KernelIdeal Cert.KernelIdeal.Gen Idealize.ShloMosaic Idealize.ShloMosaic.TcCoe
open Idealize.ShloMosaic.View

/-- The image `x` with a border of zeros one position wide: row `r` and column `c` count the border. -/
def padded (x : Vec Ideal S1x256x100x100 .fp8e4m3) (a : Fin 256) (r c : ℕ) : EReal :=
  Model.border (fun r c => x (ix4 0 a r c)) r c

/-- The scratch array once the first `n` rows of the image are stored: rows of 102 positions, zero below row `n`. -/
def upTo (x : Vec Ideal S1x256x100x100 .fp8e4m3) (n : ℕ) : Vec Ideal S256x10496 .fp8e4m3 := fun y =>
  if (y 1 : ℕ) / 102 ≤ n then padded x (y 0) ((y 1 : ℕ) / 102) ((y 1 : ℕ) % 102) else 0

/-- The array read at an index whose coordinates are known. -/
theorem upTo_at (x : Vec Ideal S1x256x100x100 .fp8e4m3) (n : ℕ) (y : S256x10496.Idx) (a : Fin 256) (q : ℕ) (h0 : y 0 = a)
    (h1 : (y 1 : ℕ) = q) : upTo x n y = if q / 102 ≤ n then padded x a (q / 102) (q % 102) else 0 := by
  subst h0 h1; rfl

/-- The zero fill is the array before any row is stored. -/
theorem fill (x : Vec Ideal S1x256x100x100 .fp8e4m3) (inb) :
    canon [(⟨Rect.unit ![0, 0] S256x10496.size inb, (k0_pay9 : FVec Ideal S256x10496 .fp8e4m3)⟩ :
      View.Piece (Elt Ideal) S256x10496 .fp8e4m3)] = upTo x 0 := by
  rw [canon_unit_zero (by funext a; fin_cases a <;> rfl)]
  funext y
  idx_vars y
  have h : upTo x 0 (ix2 y0 y1) = 0 := by
    show (if (y1 : ℕ) / 102 ≤ 0 then padded x y0 ((y1 : ℕ) / 102) ((y1 : ℕ) % 102) else 0) = 0
    split
    · unfold padded Model.border; rw [dif_neg (by omega)]
    · rfl
  rw [h]
  pointwise [k0_pay9]
  exact Ideal.ofBits_zero _

/-- Storing row `n` of the image at its place takes the array from `n` rows stored to `n + 1` rows stored. -/
theorem step (x : Vec Ideal S1x256x100x100 .fp8e4m3) (n off : ℕ) (hn : n < 100) (hoff : off = 103 + 102 * n)
    (inb : ∀ a, (![0, off] : Fin 2 → ℕ) a + S256x100.size a ≤ S256x10496.size a)
    (w : Vec Ideal S256x100 .fp8e4m3) (L : List (View.Piece (Elt Ideal) S256x10496 .fp8e4m3))
    (hw : ∀ (a : Fin 256) (p : Fin 100), x (ix4 0 a ⟨n, hn⟩ p) = w (ix2 a p)) (hL : canon L = upTo x n) :
    canon ((⟨Rect.unit ![0, off] S256x100.size inb, w⟩ : View.Piece (Elt Ideal) S256x10496 .fp8e4m3) :: L) = upTo x (n + 1) := by
  funext y
  idx_vars y
  by_cases hy : off ≤ (y1 : ℕ) ∧ (y1 : ℕ) < off + 100
  · have he : (ix2 y0 y1 : S256x10496.Idx) = (Rect.unit (s := S256x10496) ![0, off] S256x100.size inb).emb (ix2 y0 ⟨(y1 : ℕ) - off, by omega⟩) := by
      funext a
      apply Fin.ext
      fin_cases a
      · show (y0 : ℕ) = 0 + 1 * (y0 : ℕ); omega
      · show (y1 : ℕ) = off + 1 * ((y1 : ℕ) - off); omega
    rw [he, canon_cons_emb, ← he, ← hw]
    have h1 : (y1 : ℕ) / 102 = n + 1 := by omega
    have h2 : (y1 : ℕ) % 102 = (y1 : ℕ) - off + 1 := by omega
    show _ = if (y1 : ℕ) / 102 ≤ n + 1 then padded x y0 ((y1 : ℕ) / 102) ((y1 : ℕ) % 102) else 0
    rw [if_pos (by omega)]
    unfold padded Model.border
    rw [dif_pos (by omega)]
    congr 2 <;> apply Fin.ext <;> simp only [] <;> omega
  · rw [canon_cons_of_not_mem, hL]
    · show (if (y1 : ℕ) / 102 ≤ n then padded x y0 ((y1 : ℕ) / 102) ((y1 : ℕ) % 102) else 0)
        = if (y1 : ℕ) / 102 ≤ n + 1 then padded x y0 ((y1 : ℕ) / 102) ((y1 : ℕ) % 102) else 0
      by_cases h1 : (y1 : ℕ) / 102 ≤ n
      · rw [if_pos h1, if_pos (by omega)]
      · rw [if_neg h1]
        split
        · unfold padded Model.border; rw [dif_neg (by omega)]
        · rfl
    · intro hm
      rw [Rect.mem_set_unit] at hm
      have := hm 1
      apply hy
      exact this

/-- A row cut out of a slab of eight rows, which the body loads at row `o` and turns rows first. -/
theorem row8 (arg1 : Memref sig Kind.tc Space.vmem S1x256x100x100 EltTy.fp8e4m3) (harg1 : arg1.IsWhole)
    (x : Vec Ideal S1x256x100x100 .fp8e4m3) (n : ℕ) (hn : n < 100)
    (inb : ∀ a, (![0, 0, 8 * (n / 8), 0] : Fin 4 → ℕ) a + S1x256x8x100.size a ≤ S1x256x100x100.size a)
    (hsl : S8x256x100.Slices ![n % 8, 0, 0] S1x256x100)
    (a : Fin 256) (p : Fin 100) :
    x (ix4 0 a ⟨n, hn⟩ p) = (shapeCast S256x100 (shapeCast S256x100 (extractStridedSlice S1x256x100 ![n % 8, 0, 0]
      (k0_pay10 (View.readAt (Elt Ideal) arg1.view (Rect.unit (s := S1x256x100x100) ![0, 0, 8 * (n / 8), 0] S1x256x8x100.size inb).toLoadRect
            (harg1.unread x))) hsl) shapeCasts_S1x256x100_S256x100) shapeCasts_S256x100_S256x100 : FVec Ideal S256x100 .fp8e4m3) (ix2 a p) := by
  rw [readAt_eq_ld, harg1.read_unread]
  pointwise [k0_pay10]
  congr 2; apply Fin.ext; simp only []; omega

/-- A row cut out of the last slab, which has four rows. -/
theorem row4 (arg1 : Memref sig Kind.tc Space.vmem S1x256x100x100 EltTy.fp8e4m3) (harg1 : arg1.IsWhole)
    (x : Vec Ideal S1x256x100x100 .fp8e4m3) (n : ℕ) (hn : n < 100) (hs : 96 ≤ n)
    (inb : ∀ a, (![0, 0, 96, 0] : Fin 4 → ℕ) a + S1x256x4x100.size a ≤ S1x256x100x100.size a)
    (hsl : S4x256x100.Slices ![n - 96, 0, 0] S1x256x100)
    (a : Fin 256) (p : Fin 100) :
    x (ix4 0 a ⟨n, hn⟩ p) = (shapeCast S256x100 (shapeCast S256x100 (extractStridedSlice S1x256x100 ![n - 96, 0, 0]
      (k0_pay128 (View.readAt (Elt Ideal) arg1.view (Rect.unit (s := S1x256x100x100) ![0, 0, 96, 0] S1x256x4x100.size inb).toLoadRect
            (harg1.unread x))) hsl) shapeCasts_S1x256x100_S256x100) shapeCasts_S256x100_S256x100 : FVec Ideal S256x100 .fp8e4m3) (ix2 a p) := by
  rw [readAt_eq_ld, harg1.read_unread]
  pointwise [k0_pay128]
  congr 2; apply Fin.ext; simp only []; omega

/-- After the hundred stores the scratch array is the padded image. -/
theorem stored (c : Dev nD) (arg1 : Memref sig Kind.tc Space.vmem S1x256x100x100 EltTy.fp8e4m3) (harg1 : arg1.IsWhole)
    (x : Vec Ideal S1x256x100x100 .fp8e4m3) : canon (kernelRun0_A.sl.HS0_101 c arg1 harg1 x) = upTo x 100 := by
  iterate 4
    refine step x _ _ ?_ ?_ _ _ _ (fun a p => ?_) ?_
    · decide
    · rfl
    · exact row4 arg1 harg1 x _ _ (by decide) _ _ a p
  iterate 96
    refine step x _ _ ?_ ?_ _ _ _ (fun a p => ?_) ?_
    · decide
    · rfl
    · exact row8 arg1 harg1 x _ _ _ (by decide) a p
  exact fill x _

end Cert.KernelIdeal.Padded

end
-- ==== Proof.Tile.lean ====
/-
The output block of one grid point. The body works through ten tiles of ten image rows. For a tile it adds up nine
products of a weight matrix with a window of the padded image, adds the bias, cuts off below zero, multiplies with the
weights of both heads, adds their bias, and stores the ten rows of the result without the two border positions each row
has. This file states one tile as a function of what it loads, reads it at a position, and shows that the hundred stored
rows are the block `block` gives.
-/
module

public import proofs.«01_k».proof.Proof.Padded

@[expose] public section

set_option maxRecDepth 16384

noncomputable section

namespace Cert.KernelIdeal.Tile

open Cert.KernelIdeal Cert.KernelIdeal.Gen Idealize.ShloMosaic Idealize.ShloMosaic.TcCoe
open Idealize.ShloMosaic.View Cert.KernelIdeal.Padded Cert.Model

/-! ## What the block holds -/

/-- Both heads at output channel `o`, row `h`, column `w`, from the five input blocks. -/
def heads (x : Vec Ideal S1x256x100x100 .fp8e4m3) (wt : Vec Ideal S9x256x256 .f32) (wh : Vec Ideal S48x256 .bf16)
    (bc : Vec Ideal S256x1 .f32) (bh : Vec Ideal S48x1 .f32) (o : Fin 48) (h w : ℕ) : EReal :=
  head (fun i r c => x (ix4 0 i r c)) (fun a k i => wt (ix3 k a i)) (fun a => bc (ix2 a 0)) (fun a => wh (ix2 o a)) (bh (ix2 o 0)) h w

/-- The output block: the first 45 channels, row `h` and column `w` at position `100 h + w`. -/
def block (x : Vec Ideal S1x256x100x100 .fp8e4m3) (wt : Vec Ideal S9x256x256 .f32) (wh : Vec Ideal S48x256 .bf16)
    (bc : Vec Ideal S256x1 .f32) (bh : Vec Ideal S48x1 .f32) : Vec Ideal S1x45x10000 .f32 := fun y =>
  heads x wt wh bc bh ⟨(y 1 : ℕ), (y 1).isLt.trans (by decide)⟩ ((y 2 : ℕ) / 100) ((y 2 : ℕ) % 100)

/-! ## One tile as a function of its loads -/

/-- One product of a weight matrix with a window of the padded image. -/
def tap (w : Vec Ideal S1x256x256 .fp8e4m3) (v : Vec Ideal S256x1020 .fp8e4m3) : FVec Ideal S256x1020 .f32 :=
  matmul (F := Ideal) (φ₁ := .fp8e4m3) (φ₂ := .fp8e4m3) dot_S256x256_S256x1020_S256x1020_1_0_0_1_n_n none (shapeCast S256x256 w shapeCasts_S1x256x256_S256x256) v
    (constant S256x1020 .f32 0x00000000#32)

/-- The nine products added up from the first to the last. -/
def acc (w : Fin 9 → Vec Ideal S1x256x256 .fp8e4m3) (v : Fin 9 → Vec Ideal S256x1020 .fp8e4m3) : FVec Ideal S256x1020 .f32 :=
  addf (addf (addf (addf (addf (addf (addf (addf (tap (w 0) (v 0)) (tap (w 1) (v 1))) (tap (w 2) (v 2))) (tap (w 3) (v 3)))
    (tap (w 4) (v 4))) (tap (w 5) (v 5))) (tap (w 6) (v 6))) (tap (w 7) (v 7))) (tap (w 8) (v 8))

/-- The tile: bias and cut-off on the nine products, then the heads' weights and bias. -/
def tile (w : Fin 9 → Vec Ideal S1x256x256 .fp8e4m3) (v : Fin 9 → Vec Ideal S256x1020 .fp8e4m3) (wh : FVec Ideal S48x256 .bf16)
    (bc : FVec Ideal S256x1 .f32) (bh : FVec Ideal S48x1 .f32) : FVec Ideal S48x1020 .f32 :=
  addf (matmul (F := Ideal) dot_S48x256_S256x1020_S48x1020_1_0_0_1_n_n none wh
      (truncf .bf16 (maximumf (addf (acc w v) (broadcastTo S256x1020 bc broadcasts_S256x1_S256x1020))
        (broadcast S256x1020 (Scalar.ofBits .f32 0x00000000#32 : Ideal .f32))) bitsLt_bf16_f32)
      (constant S48x1020 .f32 0x00000000#32))
    (broadcastTo S48x1020 bh broadcasts_S48x1_S48x1020)

/-- A product at a position is the sum over the input channels. -/
theorem tap_apply (w : Vec Ideal S1x256x256 .fp8e4m3) (v : Vec Ideal S256x1020 .fp8e4m3) (a : Fin 256) (p : Fin 1020) :
    tap w v (ix2 a p) = ∑ i : Fin 256, (w (ix3 0 a i) * v (ix2 i p) : EReal) := by
  pointwise [tap]

/-- The tile at a position. -/
theorem tile_apply (w : Fin 9 → Vec Ideal S1x256x256 .fp8e4m3) (v : Fin 9 → Vec Ideal S256x1020 .fp8e4m3) (wh : FVec Ideal S48x256 .bf16)
    (bc : FVec Ideal S256x1 .f32) (bh : FVec Ideal S48x1 .f32) (o : Fin 48) (p : Fin 1020) :
    tile w v wh bc bh (ix2 o p) = (∑ a : Fin 256, (wh (ix2 o a)
      * max (nine (fun k => ∑ i : Fin 256, (w k (ix3 0 a i) * v k (ix2 i p) : EReal)) + bc (ix2 a 0)) 0 : EReal)) + bh (ix2 o 0) := by
  have ha : ∀ a, acc w v (ix2 a p) = nine (fun k => ∑ i : Fin 256, (w k (ix3 0 a i) * v k (ix2 i p) : EReal)) := fun a => by
    pointwise [acc]
    simp only [tap_apply, nine]
  pointwise [tile]
  simp only [ha]

/-! ## The loads -/

/-- The weights of tap `k`, read out of the scratch array the body keeps the weights in. -/
def weights (c : Dev nD) (arg2 : Memref sig Kind.tc Space.vmem S9x256x256 EltTy.f32) (harg2 : arg2.IsWhole)
    (arg8 : Memref sig Kind.tc Space.vmem S9x256x256 EltTy.fp8e4m3) (wt : Vec Ideal S9x256x256 .f32) (k : Fin 9) :
    Vec Ideal S1x256x256 .fp8e4m3 :=
  arg8.view.readCov (kernelRun0_A.sl.HS1_1 c arg2 harg2 wt)
    (Rect.unit (s := S9x256x256) ![(k : ℕ), 0, 0] S1x256x256.size (by
      intro a; have := k.isLt; fin_cases a
      · show (k : ℕ) + 1 ≤ 9; omega
      · show 0 + 256 ≤ 256; omega
      · show 0 + 256 ≤ 256; omega)).toLoadRect

/-- The window of the padded image that tap `k` of tile `t` reads. -/
def window (c : Dev nD) (arg1 : Memref sig Kind.tc Space.vmem S1x256x100x100 EltTy.fp8e4m3) (harg1 : arg1.IsWhole)
    (arg7 : Memref sig Kind.tc Space.vmem S256x10496 EltTy.fp8e4m3) (x : Vec Ideal S1x256x100x100 .fp8e4m3) (t : Fin 10) (k : Fin 9) :
    Vec Ideal S256x1020 .fp8e4m3 :=
  arg7.view.readCov (kernelRun0_A.sl.HS0_101 c arg1 harg1 x)
    (Rect.unit (s := S256x10496) ![0, 1020 * (t : ℕ) + (102 * ((k : ℕ) / 3) + (k : ℕ) % 3)] S256x1020.size (by
      intro a; have := k.isLt; have := t.isLt; fin_cases a
      · show 0 + 256 ≤ 256; omega
      · show 1020 * (t : ℕ) + (102 * ((k : ℕ) / 3) + (k : ℕ) % 3) + 1020 ≤ 10496; omega)).toLoadRect

/-- The weights a tap reads are the argument's. -/
theorem weights_apply (c : Dev nD) (arg2 : Memref sig Kind.tc Space.vmem S9x256x256 EltTy.f32) (harg2 : arg2.IsWhole)
    (arg8 : Memref sig Kind.tc Space.vmem S9x256x256 EltTy.fp8e4m3) (wt : Vec Ideal S9x256x256 .f32) (k : Fin 9) (a i : Fin 256) :
    weights c arg2 harg2 arg8 wt k (ix3 0 a i) = wt (ix3 k a i) := by
  unfold weights kernelRun0_A.sl.HS1_1
  rw [readCov_eq_canon', canon_unit_zero (by funext a; fin_cases a <;> rfl), readAt_eq_ld, harg2.read_unread]
  pointwise [k0_pay8]

/-- The window a tap reads holds the padded image, rows of 102 positions one behind the other. -/
theorem window_apply (c : Dev nD) (arg1 : Memref sig Kind.tc Space.vmem S1x256x100x100 EltTy.fp8e4m3) (harg1 : arg1.IsWhole)
    (arg7 : Memref sig Kind.tc Space.vmem S256x10496 EltTy.fp8e4m3) (x : Vec Ideal S1x256x100x100 .fp8e4m3) (t : Fin 10) (k : Fin 9)
    (i : Fin 256) (p : Fin 1020) (r w : ℕ) (hw : w < 100) (hp : (p : ℕ) = 102 * r + w) :
    window c arg1 harg1 arg7 x t k (ix2 i p) = padded x i (10 * (t : ℕ) + r + (k : ℕ) / 3) (w + (k : ℕ) % 3) := by
  unfold window
  rw [readCov_eq_canon', stored]
  have key : ∀ q : ℕ, q = 102 * (10 * (t : ℕ) + r + (k : ℕ) / 3) + (w + (k : ℕ) % 3) →
      (if q / 102 ≤ 100 then padded x i (q / 102) (q % 102) else 0)
        = padded x i (10 * (t : ℕ) + r + (k : ℕ) / 3) (w + (k : ℕ) % 3) := fun q hq => by
    have h1 : q / 102 = 10 * (t : ℕ) + r + (k : ℕ) / 3 := by omega
    have h2 : q % 102 = w + (k : ℕ) % 3 := by omega
    rw [h1, h2]
    split
    · rfl
    · unfold padded border; rw [dif_neg (by omega)]
  exact (upTo_at x 100 _ i (1020 * (t : ℕ) + (102 * ((k : ℕ) / 3) + (k : ℕ) % 3) + 1 * (p : ℕ))
    (Fin.ext (show 0 + 1 * (i : ℕ) = i by omega)) rfl).trans (key _ (by omega))

/-! ## The stored rows -/

section Rows

variable (c : Dev nD) (arg1 : Memref sig Kind.tc Space.vmem S1x256x100x100 EltTy.fp8e4m3) (harg1 : arg1.IsWhole)
  (arg2 : Memref sig Kind.tc Space.vmem S9x256x256 EltTy.f32) (harg2 : arg2.IsWhole)
  (arg3 : Memref sig Kind.tc Space.vmem S48x256 EltTy.bf16) (harg3 : arg3.IsWhole)
  (arg4 : Memref sig Kind.tc Space.vmem S256x1 EltTy.f32) (harg4 : arg4.IsWhole)
  (arg5 : Memref sig Kind.tc Space.vmem S48x1 EltTy.f32) (harg5 : arg5.IsWhole)
  (arg6 : Memref sig Kind.tc Space.vmem S1x45x10000 EltTy.f32) (harg6 : arg6.IsWhole)
  (arg7 : Memref sig Kind.tc Space.vmem S256x10496 EltTy.fp8e4m3) (harg7 : arg7.IsWhole)
  (arg8 : Memref sig Kind.tc Space.vmem S9x256x256 EltTy.fp8e4m3) (harg8 : arg8.IsWhole)
  (x : Vec Ideal S1x256x100x100 .fp8e4m3) (wt : Vec Ideal S9x256x256 .f32) (wh : Vec Ideal S48x256 .bf16)
  (bc : Vec Ideal S256x1 .f32) (bh : Vec Ideal S48x1 .f32)

/-- Tile `t` over the loads of the body. -/
def tileAt (t : Fin 10) : FVec Ideal S48x1020 .f32 :=
  tile (weights c arg2 harg2 arg8 wt) (window c arg1 harg1 arg7 x t) (kernelRun0_A.sl.r_2 c arg3 harg3 wh)
    (kernelRun0_A.sl.r c arg4 harg4 bc) (kernelRun0_A.sl.r_1 c arg5 harg5 bh)

/-- Row `r` of tile `t` holds the heads at row `10 t + r`. -/
theorem tileAt_apply (t : Fin 10) (o : Fin 48) (p : Fin 1020) (r w : ℕ) (hw : w < 100) (hp : (p : ℕ) = 102 * r + w) :
    tileAt c arg1 harg1 arg2 harg2 arg3 harg3 arg4 harg4 arg5 harg5 arg7 arg8 x wt wh bc bh t (ix2 o p)
      = heads x wt wh bc bh o (10 * (t : ℕ) + r) w := by
  have e2 : kernelRun0_A.sl.r_2 c arg3 harg3 wh = wh := by
    unfold kernelRun0_A.sl.r_2
    rw [readAt_eq_ld, harg3.read_unread, ld_unit_zero (by funext a; fin_cases a <;> rfl)]
    funext j; idx_vars j
    pointwise [k0_pay7]
  have e0 : kernelRun0_A.sl.r c arg4 harg4 bc = bc := by
    unfold kernelRun0_A.sl.r
    rw [readAt_eq_ld, harg4.read_unread, ld_unit_zero (by funext a; fin_cases a <;> rfl)]
    funext j; idx_vars j
    pointwise [k0_pay5]
  have e1 : kernelRun0_A.sl.r_1 c arg5 harg5 bh = bh := by
    unfold kernelRun0_A.sl.r_1
    rw [readAt_eq_ld, harg5.read_unread, ld_unit_zero (by funext a; fin_cases a <;> rfl)]
    funext j; idx_vars j
    pointwise [k0_pay6]
  unfold tileAt
  rw [e2, e0, e1, tile_apply]
  unfold heads head Model.hidden
  simp only [weights_apply, window_apply c arg1 harg1 arg7 x t _ _ p r w hw hp]
  rfl

/-- A list of stored rows, of which the first `n` rows of the output block hold `block`: one more row stored. -/
theorem row_step (n : ℕ) (off : Fin 3 → ℕ) (hoff : off = ![0, 0, 100 * n])
    (inb : ∀ a, off a + S1x45x100.size a ≤ S1x45x10000.size a) (v : Vec Ideal S1x45x100 .f32)
    (L : List (View.Piece (Elt Ideal) S1x45x10000 .f32)) (hn : n < 100)
    (hsl : S48x1020.Slices ![0, 102 * (n % 10)] S45x100)
    (hv : (shapeCast S1x45x100 (extractStridedSlice S45x100 ![0, 102 * (n % 10)]
      (tileAt c arg1 harg1 arg2 harg2 arg3 harg3 arg4 harg4 arg5 harg5 arg7 arg8 x wt wh bc bh ⟨n / 10, by omega⟩) hsl)
        shapeCasts_S45x100_S1x45x100 : FVec Ideal S1x45x100 .f32) = v)
    (hL : ∀ y : S1x45x10000.Idx, (y 2 : ℕ) < 100 * n → canon L y = block x wt wh bc bh y) :
    ∀ y : S1x45x10000.Idx, (y 2 : ℕ) < 100 * (n + 1) →
      canon ((⟨Rect.unit off S1x45x100.size inb, v⟩ : View.Piece (Elt Ideal) S1x45x10000 .f32) :: L) y = block x wt wh bc bh y := by
  subst hoff
  intro y hy
  by_cases h : (y 2 : ℕ) < 100 * n
  · rw [canon_cons_of_not_mem, hL y h]
    intro hm
    rw [Rect.mem_set_unit] at hm
    have := (hm 2).1
    have : 100 * n ≤ (y 2 : ℕ) := this
    omega
  · idx_vars y
    have hy2 : (y2 : ℕ) < 100 * (n + 1) := hy
    have h2 : ¬ (y2 : ℕ) < 100 * n := h
    have he : (ix3 y0 y1 y2 : S1x45x10000.Idx)
        = (Rect.unit (s := S1x45x10000) ![0, 0, 100 * n] S1x45x100.size inb).emb (ix3 y0 y1 ⟨(y2 : ℕ) - 100 * n, by omega⟩) := by
      funext a
      apply Fin.ext
      fin_cases a
      · show (y0 : ℕ) = 0 + 1 * (y0 : ℕ); omega
      · show (y1 : ℕ) = 0 + 1 * (y1 : ℕ); omega
      · show (y2 : ℕ) = 100 * n + 1 * ((y2 : ℕ) - 100 * n); omega
    rw [he, canon_cons_emb, ← he, ← hv]
    pointwise
    rw [tileAt_apply (r := n % 10) (w := (y2 : ℕ) - 100 * n) (hw := by omega) (hp := rfl)]
    have ea : 10 * (n / 10) + n % 10 = (y2 : ℕ) / 100 := by omega
    have eb : (y2 : ℕ) - 100 * n = (y2 : ℕ) % 100 := by omega
    exact congrArg₂ (heads x wt wh bc bh ⟨(y1 : ℕ), y1.isLt.trans (by decide)⟩) ea eb

/-- What the body leaves in the output block is `block` of the five input blocks. -/
theorem out_eq (i : grid0.Coords) :
    out0_A_5 c i arg1 harg1 arg2 harg2 arg3 harg3 arg4 harg4 arg5 harg5 arg6 harg6 arg7 harg7 arg8 harg8 x wt wh bc bh
      = block x wt wh bc bh := by
  unfold out0_A_5
  rw [read_writes_junk_eq_canon]
  funext y
  unfold kernelRun0_A
  dsimp only
  have hy : (y 2 : ℕ) < 100 * 100 := (y 2).isLt
  revert y
  iterate 100
    refine row_step c arg1 harg1 arg2 harg2 arg3 harg3 arg4 harg4 arg5 harg5 arg7 arg8 x wt wh bc bh _ _ ?_ _ _ _ ?_ ?_ ?_ ?_
    rotate_left 1
    · decide
    · decide
    · rfl
    rotate_left 1
    · rfl
  intro y h
  exact absurd h (Nat.not_lt_zero _)

end Rows

end Cert.KernelIdeal.Tile

end
-- ==== Proof.Output.lean ====
/-
The kernel's result array: the arrays the host lines hand to the kernel, read at an index as the arguments, and the
block each of the two grid points writes, so that the whole array is `Model.result` of the arguments.
-/
module

public import proofs.«01_k».proof.Proof.Tile

@[expose] public section

set_option maxRecDepth 16384

noncomputable section

namespace Cert.KernelIdeal.Output

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The host lines before the kernel -/

/-- The image handed to the kernel is the first argument. -/
theorem V_v0 (c : Dev nD) (j : S2x256x100x100.Idx) :
    (V m c main_v0 : Vec Ideal S2x256x100x100 .fp8e4m3) j = (m ((c : Thread nD τ).loc main_arg0) : Vec Ideal S2x256x100x100 .f32) j := by
  have h : (V m c main_v0 : Vec Ideal S2x256x100x100 .fp8e4m3) = (Host.convertf (φ := .f32) .fp8e4m3 (m ((c : Thread nD τ).loc main_arg0) : Vec Ideal S2x256x100x100 .f32) : FVec Ideal S2x256x100x100 .fp8e4m3) := by
    dsimp only [V, hostOps0, hostOps0_1, hostOps0_2, hostOps0_3, hostOps0_4, List.flatten_cons, List.flatten_nil, List.append_nil, List.cons_append, List.nil_append]
    after_results
  rw [h]; rfl

/-- The convolution's weights handed to the kernel: tap `k` is row `k / 3`, column `k % 3` of the argument. -/
theorem V_v2 (c : Dev nD) (k : Fin 9) (a i : Fin 256) :
    (V m c main_v2 : Vec Ideal S9x256x256 .f32) (ix3 k a i)
      = (m ((c : Thread nD τ).loc main_arg1) : Vec Ideal S256x256x3x3 .f32) (ix4 a i ⟨(k : ℕ) / 3, by omega⟩ ⟨(k : ℕ) % 3, by omega⟩) := by
  dsimp only [V, hostOps0, hostOps0_1, hostOps0_2, hostOps0_3, hostOps0_4, List.flatten_cons, List.flatten_nil, List.append_nil, List.cons_append, List.nil_append]
  after_results
  pointwise

/-- The heads' weights handed to the kernel: the class head's nine rows, then the box head's. -/
theorem V_v7 (c : Dev nD) (o : Fin 48) (a : Fin 256) (ho : (o : ℕ) < 45) :
    (V m c main_v7 : Vec Ideal S48x256 .bf16) (ix2 o a)
      = if h : (o : ℕ) < 9 then (m ((c : Thread nD τ).loc main_arg3) : Vec Ideal S9x256x1x1 .f32) (ix4 ⟨o, h⟩ a 0 0)
        else (m ((c : Thread nD τ).loc main_arg5) : Vec Ideal S36x256x1x1 .f32) (ix4 ⟨(o : ℕ) - 9, by omega⟩ a 0 0) := by
  dsimp only [V, hostOps0, hostOps0_1, hostOps0_2, hostOps0_3, hostOps0_4, List.flatten_cons, List.flatten_nil, List.append_nil, List.cons_append, List.nil_append]
  after_results
  show (pad S48x256 ![0, 0] ![3, 0] ![0, 0]
    (concatenate S45x256 0
      [⟨S9x256, shapeCast S9x256 (m ((c : Thread nD τ).loc main_arg3) : Vec Ideal S9x256x1x1 .f32) shapeCasts_S9x256x1x1_S9x256⟩,
       ⟨S36x256, shapeCast S36x256 (m ((c : Thread nD τ).loc main_arg5) : Vec Ideal S36x256x1x1 .f32) shapeCasts_S36x256x1x1_S36x256⟩]
      concatenates_S9x256_S36x256_S45x256_d0)
    (sitofp .f32 (constantI S_ 32 0#32) : FVec Ideal S_ .f32) pads_S45x256_S48x256_030_000 h_S_ : FVec Ideal S48x256 .f32) (ix2 o a) = _
  pointwise
  rw [dif_pos ho]

/-- The heads' biases handed to the kernel, in the same order. -/
theorem V_v10 (c : Dev nD) (o : Fin 48) (ho : (o : ℕ) < 45) :
    (V m c main_v10 : Vec Ideal S48x1 .f32) (ix2 o 0)
      = if h : (o : ℕ) < 9 then (m ((c : Thread nD τ).loc main_arg4) : Vec Ideal S9 .f32) (ix1 ⟨o, h⟩)
        else (m ((c : Thread nD τ).loc main_arg6) : Vec Ideal S36 .f32) (ix1 ⟨(o : ℕ) - 9, by omega⟩) := by
  dsimp only [V, hostOps0, hostOps0_1, hostOps0_2, hostOps0_3, hostOps0_4, List.flatten_cons, List.flatten_nil, List.append_nil, List.cons_append, List.nil_append]
  after_results
  pointwise
  show (pad S48 ![0] ![3] ![0]
    (concatenate S45 0 [⟨S9, (m ((c : Thread nD τ).loc main_arg4) : Vec Ideal S9 .f32)⟩,
      ⟨S36, (m ((c : Thread nD τ).loc main_arg6) : Vec Ideal S36 .f32)⟩] concatenates_S9_S36_S45_d0)
    (sitofp .f32 (constantI S_ 32 0#32) : FVec Ideal S_ .f32) pads_S45_S48_030 h_S_ : FVec Ideal S48 .f32) (ix1 o) = _
  pointwise
  rw [dif_pos ho]

/-- The convolution's bias handed to the kernel. -/
theorem V_v11 (c : Dev nD) (a : Fin 256) :
    (V m c main_v11 : Vec Ideal S256x1 .f32) (ix2 a 0) = (m ((c : Thread nD τ).loc main_arg2) : Vec Ideal S256 .f32) (ix1 a) := by
  dsimp only [V, hostOps0, hostOps0_1, hostOps0_2, hostOps0_3, hostOps0_4, List.flatten_cons, List.flatten_nil, List.append_nil, List.cons_append, List.nil_append]
  after_results
  pointwise

/-! ## The input blocks -/

/-- Which block of each array grid point `t` uses: the image and the result by `t`, the other arrays whole. -/
theorem index_eq : ∀ t : Fin cfg0.N, (win0_0.index t = ![t.val, 0, 0, 0] ∧ win0_1.index t = ![0, 0, 0] ∧ win0_2.index t = ![0, 0])
    ∧ win0_3.index t = ![0, 0] ∧ win0_4.index t = ![0, 0] ∧ win0_5.index t = ![t.val, 0, 0] :=
  (by decide +kernel : ∀ t : Fin grid0.N, (win0_0.index t = ![t.val, 0, 0, 0] ∧ win0_1.index t = ![0, 0, 0] ∧ win0_2.index t = ![0, 0])
    ∧ win0_3.index t = ![0, 0] ∧ win0_4.index t = ![0, 0] ∧ win0_5.index t = ![t.val, 0, 0])

/-- A grid point as the number of an image. -/
def image (t : Fin cfg0.N) : Fin 2 := ⟨t.val, t.isLt.trans_le N_0.le⟩

/-- The image block at point `t` is image `t`. -/
theorem iblk0 (c : Dev nD) (t : Fin cfg0.N) (i : Fin 256) (r w : Fin 100) :
    (iblk m c 0 t : Vec Ideal S1x256x100x100 .fp8e4m3) (ix4 0 i r w)
      = (m ((c : Thread nD τ).loc main_arg0) : Vec Ideal S2x256x100x100 .f32) (ix4 (image t) i r w) := by
  refine Eq.trans ?_ (V_v0 m c _)
  refine congrArg (V m c main_v0 : Vec Ideal S2x256x100x100 .fp8e4m3) ?_
  funext a
  apply Fin.ext
  show win0_0.index t a * win0_0.size a + 1 * _ = _
  rw [(index_eq t).1.1]
  fin_cases a
  · show t.val * 1 + 1 * 0 = t.val; omega
  · show 0 * 256 + 1 * (i : ℕ) = i; omega
  · show 0 * 100 + 1 * (r : ℕ) = r; omega
  · show 0 * 100 + 1 * (w : ℕ) = w; omega

/-- The block of the convolution's weights is the whole array. -/
theorem iblk1 (c : Dev nD) (t : Fin cfg0.N) (k : Fin 9) (a i : Fin 256) :
    (iblk m c 1 t : Vec Ideal S9x256x256 .f32) (ix3 k a i) = (V m c main_v2 : Vec Ideal S9x256x256 .f32) (ix3 k a i) := by
  refine congrArg (V m c main_v2 : Vec Ideal S9x256x256 .f32) ?_
  funext d
  apply Fin.ext
  show win0_1.index t d * win0_1.size d + 1 * _ = _
  rw [(index_eq t).1.2.1]
  fin_cases d
  · show 0 * 9 + 1 * (k : ℕ) = k; omega
  · show 0 * 256 + 1 * (a : ℕ) = a; omega
  · show 0 * 256 + 1 * (i : ℕ) = i; omega

/-- The block of the heads' weights is the whole array. -/
theorem iblk2 (c : Dev nD) (t : Fin cfg0.N) (o : Fin 48) (a : Fin 256) :
    (iblk m c 2 t : Vec Ideal S48x256 .bf16) (ix2 o a) = (V m c main_v7 : Vec Ideal S48x256 .bf16) (ix2 o a) := by
  refine congrArg (V m c main_v7 : Vec Ideal S48x256 .bf16) ?_
  funext d
  apply Fin.ext
  show win0_2.index t d * win0_2.size d + 1 * _ = _
  rw [(index_eq t).1.2.2]
  fin_cases d
  · show 0 * 48 + 1 * (o : ℕ) = o; omega
  · show 0 * 256 + 1 * (a : ℕ) = a; omega

/-- The block of the convolution's bias is the whole array. -/
theorem iblk3 (c : Dev nD) (t : Fin cfg0.N) (a : Fin 256) :
    (iblk m c 3 t : Vec Ideal S256x1 .f32) (ix2 a 0) = (V m c main_v11 : Vec Ideal S256x1 .f32) (ix2 a 0) := by
  refine congrArg (V m c main_v11 : Vec Ideal S256x1 .f32) ?_
  funext d
  apply Fin.ext
  show win0_3.index t d * win0_3.size d + 1 * _ = _
  rw [(index_eq t).2.1]
  fin_cases d
  · show 0 * 256 + 1 * (a : ℕ) = a; omega
  · rfl

/-- The block of the heads' biases is the whole array. -/
theorem iblk4 (c : Dev nD) (t : Fin cfg0.N) (o : Fin 48) :
    (iblk m c 4 t : Vec Ideal S48x1 .f32) (ix2 o 0) = (V m c main_v10 : Vec Ideal S48x1 .f32) (ix2 o 0) := by
  refine congrArg (V m c main_v10 : Vec Ideal S48x1 .f32) ?_
  funext d
  apply Fin.ext
  show win0_4.index t d * win0_4.size d + 1 * _ = _
  rw [(index_eq t).2.2.1]
  fin_cases d
  · show 0 * 48 + 1 * (o : ℕ) = o; omega
  · rfl

/-! ## The result array -/

/-- The result array as a function of the arguments. -/
def result (c : Dev nD) : Vec Ideal S2x45x10000 .f32 := fun y =>
  Model.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) (y 1) (y 2)

/-- The output block of point `t` is image `t` of the result. -/
theorem block_eq (c : Dev nD) (t : Fin cfg0.N) (o : Fin 45) (q : Fin 10000) :
    Tile.block (iblk m c 0 t) (iblk m c 1 t) (iblk m c 2 t) (iblk m c 3 t) (iblk m c 4 t) (ix3 0 o q)
      = result m c (ix3 (image t) o q) := by
  show Tile.heads (iblk m c 0 t) (iblk m c 1 t) (iblk m c 2 t) (iblk m c 3 t) (iblk m c 4 t) ⟨(o : ℕ), o.isLt.trans (by decide)⟩
    ((q : ℕ) / 100) ((q : ℕ) % 100) = Model.result _ _ _ _ _ _ _ (image t) o q
  exact Model.head_congr _ _ (fun i r w => iblk0 m c t i r w) (fun a k i => (iblk1 m c t k a i).trans (V_v2 m c k a i))
    (fun a => (iblk3 m c t a).trans (V_v11 m c a)) (fun a => (iblk2 m c t _ a).trans (V_v7 m c _ a o.isLt))
    ((iblk4 m c t _).trans (V_v10 m c _ o.isLt))

/-- What point `t` writes back is its block of the result. -/
theorem flushed_eq (c : Dev nD) (t : Fin cfg0.N) :
    (dats m 0 c).flushed 5 t = ((cfg0.win 5).blk t).view.read (Elt Ideal) (result m c) := by
  rw [Value.flushed5_A, Tile.out_eq]
  funext y
  have hy : ∃ (o : Fin 45) (q : Fin 10000), (y : S1x45x10000.Idx) = ix3 0 o q := ⟨y 1, y 2, by
    funext a; fin_cases a
    · exact Subsingleton.elim (α := Fin 1) _ _
    · rfl
    · rfl⟩
  obtain ⟨o, q, rfl⟩ := hy
  refine (block_eq m c t o q).trans (congrArg (result m c) ?_)
  funext a
  apply Fin.ext
  show _ = win0_5.index t a * win0_5.size a + 1 * _
  rw [(index_eq t).2.2.2]
  fin_cases a
  · show t.val = t.val * 1 + 1 * 0; omega
  · show (o : ℕ) = 0 * 45 + 1 * (o : ℕ); omega
  · show (q : ℕ) = 0 * 10000 + 1 * (q : ℕ); omega

/-- Block `t` of the result is image `t`. -/
theorem mem_blk (t : Fin cfg0.N) (i : S2x45x10000.Idx) : i ∈ ((cfg0.win 5).blk t).view.set ↔ (i 0 : ℕ) = t.val := by
  show i ∈ ((View.whole main_v12).slice (win0_5.rect t)).set ↔ _
  rw [View.set_slice_whole, Rect.mem_set_unit]
  have h1 : (i 1 : ℕ) < 45 := (i 1).isLt
  have h2 : (i 2 : ℕ) < 10000 := (i 2).isLt
  have e := (index_eq t).2.2.2
  refine ⟨fun h => ?_, fun h a => ?_⟩
  · have h0 : win0_5.index t 0 * 1 ≤ (i 0 : ℕ) ∧ (i 0 : ℕ) < win0_5.index t 0 * 1 + 1 := h 0
    have e0 : win0_5.index t 0 = t.val := congrFun e 0
    omega
  · show win0_5.index t a * win0_5.size a ≤ (i a : ℕ) ∧ (i a : ℕ) < win0_5.index t a * win0_5.size a + win0_5.size a
    rw [e]
    fin_cases a
    · show t.val * 1 ≤ (i 0 : ℕ) ∧ (i 0 : ℕ) < t.val * 1 + 1; omega
    · show 0 * 45 ≤ (i 1 : ℕ) ∧ (i 1 : ℕ) < 0 * 45 + 45; omega
    · show 0 * 10000 ≤ (i 2 : ℕ) ∧ (i 2 : ℕ) < 0 * 10000 + 10000; omega

/-- Every index of the result is in a block some point writes back. -/
theorem cover (i : S2x45x10000.Idx) : ∃ t : Fin cfg0.N, (cfg0.win 5).flush t = true ∧ i ∈ ((cfg0.win 5).blk t).view.set := by
  refine ⟨⟨(i 0 : ℕ), (show (i 0 : ℕ) < 2 from (i 0).isLt).trans_le N_0.ge⟩, flush0_5 _, ?_⟩
  rw [mem_blk]

/-- Every run of the kernel ends with the result array at `result`, and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans
    ((dats m 0 c).arrAt_eq_of_cover 5 (result m c) (fun t _ => flushed_eq m c t) cover), (h c).2⟩) (Value.run_blocks m ρ)

end Cert.KernelIdeal.Output

end
-- ==== Proof.Plain.lean ====
/-
The reference's result, read at an index: its padded image, its nine products one behind the other, its two heads and
their concatenation are `Model.result` of the arguments.
-/
module

public import proofs.«01_k».proof.Proof.Model
public import proofs.«01_k».proof.Proof.Gen.ReferenceIdeal.Read

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe

variable (X : Vec Ideal S2x256x100x100 .f32) (W : Vec Ideal S256x256x3x3 .f32) (B : Vec Ideal S256 .f32)
  (Wcls : Vec Ideal S9x256x1x1 .f32) (Bcls : Vec Ideal S9 .f32) (Wreg : Vec Ideal S36x256x1x1 .f32) (Breg : Vec Ideal S36 .f32)

/-- The padded image is the image with a border of zeros. -/
theorem padded_apply (b : Fin 2) (i : Fin 256) (r c : Fin 102) :
    (val_main_v0 (F := Ideal) X : Vec Ideal S2x256x102x102 .f32) (ix4 b i r c) = Model.border (fun r c => X (ix4 b i r c)) r c := by
  pointwise [val_main_v0, Model.border]
  have z : (val_main_call0_v0 (F := Ideal) : Vec Ideal S_ .f32) (Shape.Idx.first h_S_) = (0 : EReal) := by
    show (((0#32).toInt : ℝ) : EReal) = 0
    simp
  rw [z]
  exact dite_congr (propext (by omega)) (fun _ => rfl) (fun _ => rfl)

/-- The hidden layer. -/
theorem hidden_apply (b : Fin 2) (a : Fin 256) (h w : Fin 100) :
    (val_main_v59 (F := Ideal) X W B : Vec Ideal S2x256x100x100 .f32) (ix4 b a h w)
      = Model.hidden (fun i r c => X (ix4 b i r c)) (fun k i => W (ix4 a i ⟨(k : ℕ) / 3, by omega⟩ ⟨(k : ℕ) % 3, by omega⟩)) (B (ix1 a)) h w := by
  pointwise [val_main_v59, val_main_v58, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v56, val_main_v57, val_main_cst, val_main_call1_v0, val_main_call1_cst]
  simp only [padded_apply]
  unfold Model.hidden Model.nine
  simp only [mul_comm (W _), Nat.add_comm 1, Nat.add_comm 2]
  rfl

/-- The whole result. -/
theorem result_apply (b : Fin 2) (o : Fin 45) (q : Fin 10000) :
    (val_main_v73 (F := Ideal) X W B Wcls Bcls Wreg Breg : Vec Ideal S2x45x10000 .f32) (ix3 b o q)
      = Model.result X W B Wcls Bcls Wreg Breg b o q := by
  pointwise [val_main_v73, val_main_v72, val_main_v71, val_main_v70, val_main_v69, val_main_v68, val_main_v67, val_main_v66,
    val_main_v65, val_main_v64, val_main_v63, val_main_v62, val_main_v61, val_main_v60]
  simp only [hidden_apply]
  unfold Model.result Model.head
  by_cases ho : (o : ℕ) < 9
  · refine (dif_pos ho).trans (congrArg₂ (· + ·) (Finset.sum_congr rfl fun a _ => ?_) (by rw [dif_pos ho]))
    exact (mul_comm _ _).trans (congrArg₂ (· * ·) (by beta_reduce; rw [dif_pos ho]) rfl)
  · refine (dif_neg ho).trans (congrArg₂ (· + ·) (Finset.sum_congr rfl fun a _ => ?_) (by rw [dif_neg ho]))
    exact (mul_comm _ _).trans (congrArg₂ (· * ·) (by beta_reduce; rw [dif_neg ho]) rfl)

/-- Every run leaves `Model.result` of its arguments in the result buffer, index by index. -/
theorem res_apply (m : (ℓ : Loc nD τ sig) → Buf (Elt Ideal) ℓ) (c : Dev nD) (y : S2x45x10000.Idx) :
    (Value.res_main_v73 m c : Vec Ideal S2x45x10000 .f32) y
      = Model.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (y 0) (y 1) (y 2) := by
  rw [val_main_v73_eq]
  idx_vars y
  exact result_apply _ _ _ _ _ _ _ _ _ _

end Cert.ReferenceIdeal.Plain

end
-- ==== Proof.lean ====
/-
The five claims: the three frames, the first program's run carried to the second, and the equality of the kernel's result
with the plain mathematics, every entry of it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Output
public import proofs.«01_k».proof.Proof.Plain
public import Idealize.ShloMosaic.Adequacy
public import Idealize.ShloMosaic.Init

@[expose] public section

noncomputable section

namespace Cert.Proof

open Idealize.ShloMosaic Idealize.SL.Sem Cert.Kernel

/-- The kernel as written ends, leaves its arguments as they were and every semaphore at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the plain mathematics, which declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel over the extended reals is the kernel with no operation replaced. -/
theorem preserves : Cert.preserves_Kernel_KernelIdeal := trivial

/-- From equal arguments the kernel and the plain mathematics leave the same result, at every index. -/
theorem algebraic : Cert.algebraic_KernelIdeal_ReferenceIdeal := by
  intro m ρ m' ρ' _ hag
  refine ⟨fun c => Cert.KernelIdeal.Output.result m c, Cert.KernelIdeal.Output.run m ρ, ?_⟩
  refine (θ_run Cert.ReferenceIdeal.defs _ _).mono (fun _ h c => ⟨(h c).1.trans (funext fun y => ?_), (h c).2⟩)
    (Cert.ReferenceIdeal.Value.run (F := Ideal) m' ρ')
  refine (Cert.ReferenceIdeal.Plain.res_apply m' c y).trans ?_
  obtain ⟨h0, h1, h2, h3, h4, h5, h6⟩ := hag c
  rw [h0, h1, h2, h3, h4, h5, h6]
  rfl

/-- All five claims. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
